-- ==== Defs.lean ====
def Pre_Kernel (m : (ℓ : Loc Cert.Kernel.nD Cert.Kernel.τ Cert.Kernel.sig) → Buf (Elt Bits) ℓ) : Prop :=
  True

def Pre_Kernel_positions [hPre_positions : Cert.Pre_positions.Facts] (m : (ℓ : Loc Cert.Kernel.nD Cert.Kernel.τ Cert.Kernel.sig) → Buf (Elt Bits) ℓ) : Prop :=
  ∀ c : Dev Cert.Kernel.nD,
    (Cert.Pre_positions.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_positions [hPre_positions : Cert.Pre_positions.Facts] (m : (ℓ : Loc Cert.KernelIdeal.nD Cert.KernelIdeal.τ Cert.KernelIdeal.sig) → Buf (Elt Ideal) ℓ) : Prop :=
  ∀ c : Dev Cert.KernelIdeal.nD,
    (Cert.Pre_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions [hPre_positions : Cert.Pre_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def Pre_Reference_positions [hPre_positions : Cert.Pre_positions.Facts] (m : (ℓ : Loc Cert.Reference.nD Cert.Reference.τ Cert.Reference.sig) → Buf (Elt Bits) ℓ) : Prop :=
  ∀ c : Dev Cert.Reference.nD,
    (Cert.Pre_positions.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_positions [hKernel : Cert.Kernel.Facts] [hPre_positions : Cert.Pre_positions.Facts] : Prop :=
  ∀ (m : (ℓ : Loc Cert.Kernel.nD Cert.Kernel.τ Cert.Kernel.sig) → Buf (Elt Bits) ℓ) (g : Dev Cert.Kernel.nD → PrngReg), Pre_Kernel_positions m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_positions [hKernelIdeal : Cert.KernelIdeal.Facts] [hPre_positions : Cert.Pre_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_positions [hReferenceIdeal : Cert.ReferenceIdeal.Facts] [hPre_positions : Cert.Pre_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_positions [hReference : Cert.Reference.Facts] [hPre_positions : Cert.Pre_positions.Facts] : Prop :=
  ∀ (m : (ℓ : Loc Cert.Reference.nD Cert.Reference.τ Cert.Reference.sig) → Buf (Elt Bits) ℓ) (g : Dev Cert.Reference.nD → PrngReg), Pre_Reference_positions m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def bitexact_Kernel_Reference_pre_positions [hKernel : Cert.Kernel.Facts] [hReference : Cert.Reference.Facts] [hPre_positions : Cert.Pre_positions.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_positions m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal_pre_positions [hKernelIdeal : Cert.KernelIdeal.Facts] [hReferenceIdeal : Cert.ReferenceIdeal.Facts] [hPre_positions : Cert.Pre_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_positions : Cert.Pre_positions.Facts),
    quiescent_Kernel (hKernel := hKernel)
    ∧ quiescent_Kernel_pre_positions (hKernel := hKernel) (hPre_positions := hPre_positions)
    ∧ quiescent_KernelIdeal (hKernelIdeal := hKernelIdeal)
    ∧ quiescent_KernelIdeal_pre_positions (hKernelIdeal := hKernelIdeal) (hPre_positions := hPre_positions)
    ∧ quiescent_ReferenceIdeal (hReferenceIdeal := hReferenceIdeal)
    ∧ quiescent_ReferenceIdeal_pre_positions (hReferenceIdeal := hReferenceIdeal) (hPre_positions := hPre_positions)
    ∧ quiescent_Reference (hReference := hReference)
    ∧ quiescent_Reference_pre_positions (hReference := hReference) (hPre_positions := hPre_positions)
    ∧ preserves_Kernel_KernelIdeal
    ∧ bitexact_Kernel_Reference_pre_positions (hKernel := hKernel) (hReference := hReference) (hPre_positions := hPre_positions)
    ∧ algebraic_KernelIdeal_ReferenceIdeal_pre_positions (hKernelIdeal := hKernelIdeal) (hReferenceIdeal := hReferenceIdeal) (hPre_positions := hPre_positions)
-- ==== Pre_positions.lean ====
abbrev S4x2048x1024 : Shape := ⟨3, ![4, 2048, 1024]⟩
abbrev S2048x1024 : Shape := ⟨2, ![2048, 1024]⟩
abbrev S2048 : Shape := ⟨1, ![2048]⟩
abbrev S_ : Shape := ⟨0, ![]⟩

class Facts : Prop where
  reducesTo_S2048_S_d0 : S2048.ReducesTo [0] S_
  h_S_ : 0 < S_.numel

variable [Facts]

def fn {F : FTy → Type} [FloatOps F] (main_arg0 : FVec F S4x2048x1024 .f32) (main_arg1 : FVec F S2048x1024 .f32) (main_arg2 : IVec S2048 32) : IVec S_ 1 :=
  let main_v0 : IVec S2048 32 := iotaInDim S2048 32 0
  let main_v1 : IVec S2048 1 := cmpi .eq main_arg2 main_v0
  let main_c : IVec S_ 1 := constantI S_ 1 1#1
  let main_v2 : IVec S_ 1 := (fun x v => Host.reduce IntOp.andi x v reducesTo_S2048_S_d0 h_S_) main_v1 main_c
  main_v2
-- ==== Kernel.lean ====
abbrev S4x2048x1024 : Shape := ⟨3, ![4, 2048, 1024]⟩
abbrev S2048x1024 : Shape := ⟨2, ![2048, 1024]⟩
abbrev S2048 : Shape := ⟨1, ![2048]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S4x2048x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | .local _ .vmem, ⟨4, _⟩ => ⟨S4x256x1024, .f32⟩
  | .local _ .vmem, ⟨5, _⟩ => ⟨S4x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4x2048x1024 : Shape := ⟨3, ![4, 2048, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x1024, .f32⟩
  | .hbm, ⟨22, _⟩ => ⟨S2048x1024, .i1⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S1x2048x1024, .f32⟩
  | .hbm, ⟨27, _⟩ => ⟨S4x2048x1024, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.Lookup.lean ====
/-
  The mathematics of the positional embedding, apart from any program.

  `added x pe` is the array that the kernel leaves: at batch `b`, position `s` and column `k` it is
  `x[b, s, k] + pe[s, k]`. `wrapped`, `inRange` and `taken` are the three steps of `jnp.take(pe, p, axis=0)` as the
  reference spells them: a negative position counts from the end, a position outside the table is marked, and the row
  is gathered, a marked row being replaced by a fill value. When `p` lists the positions in order (`InOrder`), no
  position is negative and none is outside, so every step is transparent and `taken` is the table itself; the sum with
  the table spread over the batch is then `added`. Every statement is for an arbitrary reading of the floats.
-/
module

public import Idealize.ShloMosaic.PureOps
public import Idealize.ShloMosaic.Lib.Pipeline.Value
public import Idealize.ShloMosaic.Lib.ReduceAll
public import Idealize.ShloMosaic.Lib.Routing.Ops
public import Idealize.ShloMosaic.Lib.StableHlo.Predicate
public import Idealize.ShloMosaic.Lib.ValueIdxCore

@[expose] public section

noncomputable section

namespace Cert.Lookup

open Idealize.ShloMosaic Idealize.ShloMosaic.ValueIdx

/-- The shapes: the batch of sequences, the table, the positions, and the positions as a column. -/
abbrev SX : Shape := ⟨3, ![4, 2048, 1024]⟩
abbrev ST : Shape := ⟨2, ![2048, 1024]⟩
abbrev SP : Shape := ⟨1, ![2048]⟩
abbrev SC : Shape := ⟨2, ![2048, 1]⟩
abbrev S1T : Shape := ⟨3, ![1, 2048, 1024]⟩
abbrev S0 : Shape := ⟨0, ![]⟩

variable {F : FTy → Type} [FloatOps F]

/-- `x[b, s, k] + pe[s, k]`, over the whole batch. -/
def added (x : FVec F SX .f32) (pe : FVec F ST .f32) : FVec F SX .f32 :=
  fun i => FloatOps.addf (x i) (pe (ix2 (i 1) (i 2)))

/-- The positions are 0, 1, 2, …, in order. -/
def InOrder (p : IVec SP 32) : Prop := ∀ s : Fin 2048, p (ix1 s) = BitVec.ofNat 32 s.val

/-- The positions with each negative one counted from the table's end. -/
abbrev wrapped (h : S0.BroadcastsInDim SP ![]) (p : IVec SP 32) : IVec SP 32 :=
  select (cmpi .slt p (broadcastInDim SP ![] h (constantI S0 32 0#32)))
    (addi p (broadcastInDim SP ![] h (constantI S0 32 2048#32))) p

/-- Positions in order are not negative, so wrapping leaves them alone. -/
theorem wrapped_eq (h : S0.BroadcastsInDim SP ![]) {p : IVec SP 32} (hp : InOrder p) : wrapped h p = p := by
  funext i
  obtain ⟨s, rfl⟩ : ∃ s : Fin 2048, i = ix1 s := ⟨i 0, eq_ix1 i⟩
  have hs := s.isLt
  have hlt : ¬ IntOp.cmpi .slt (BitVec.ofNat 32 s.val) 0#32 = 1#1 := by
    rw [StableHlo.Predicate.slt_iff_toNat (by rw [BitVec.toNat_ofNat]; omega) (by decide)]
    exact Nat.not_lt_zero _
  show Scalar.select (IntOp.cmpi .slt (p (ix1 s)) 0#32) _ (p (ix1 s)) = p (ix1 s)
  rw [hp s, eq_zero_of_ne_one hlt, select_zero]

/-- The column of positions at row `s` is the position `s`. -/
theorem column_apply (h : SP.BroadcastsInDim SC ![0]) (p : IVec SP 32) (s : Fin 2048) (z : Fin 1) :
    broadcastInDim SC ![0] h p (ix2 s z) = p (ix1 s) :=
  broadcastInDim_apply _ h p _ (ix1 s) fun a => by match a with | ⟨0, _⟩ => rfl

/-- The bit of each position that says it is inside the table: at least 0 and at most 2047. -/
abbrev inRange (hc : S0.BroadcastsInDim SC ![]) (h1 : (⟨1, ![1]⟩ : Shape).BroadcastsInDim ⟨2, ![1, 1]⟩ ![1])
    (h2 : (⟨2, ![1, 1]⟩ : Shape).BroadcastsInDim SC ![0, 1]) (hr : SC.ReducesTo [1] SP) (h0 : 0 < S0.numel)
    (q : IVec SC 32) : IVec SP 1 :=
  Host.reduce IntOp.andi
    (andi (cmpi .sge q (broadcastInDim SC ![] hc (constantI S0 32 0#32)))
      (cmpi .sle q (broadcastInDim SC ![0, 1] h2 (broadcastInDim ⟨2, ![1, 1]⟩ ![1] h1 (constantI ⟨1, ![1]⟩ 32 2047#32)))))
    (constantI S0 1 1#1) hr h0

/-- Positions in order are all inside the table. -/
theorem inRange_eq (hc h1 h2 hr h0) (h : SP.BroadcastsInDim SC ![0]) {p : IVec SP 32} (hp : InOrder p) (j : SP.Idx) :
    inRange hc h1 h2 hr h0 (broadcastInDim SC ![0] h p) j = 1#1 := by
  refine Host.reduce_andi_one _ _ hr h0 j rfl fun i => ?_
  obtain ⟨s, z, rfl⟩ : ∃ (s : Fin 2048) (z : Fin 1), i = ix2 s z := ⟨i 0, i 1, eq_ix2 i⟩
  have hs := s.isLt
  have hn : (BitVec.ofNat 32 s.val).toNat = s.val := by rw [BitVec.toNat_ofNat]; omega
  show IntOp.andi (IntOp.cmpi .sge (broadcastInDim SC ![0] h p (ix2 s z)) 0#32)
    (IntOp.cmpi .sle (broadcastInDim SC ![0] h p (ix2 s z)) 2047#32) = 1#1
  rw [column_apply, hp s, IntOp.andi_eq_one, StableHlo.Predicate.sge_iff_toNat (by omega) (by decide),
    StableHlo.Predicate.sle_iff_toNat (by omega) (by decide), hn]
  exact ⟨Nat.zero_le _, Nat.le_of_lt_succ hs⟩

/-- The looked-up rows: the gathered row where the position is inside the table, the fill elsewhere. -/
abbrev taken (d : GatherDims ST SC ST) (hm : SP.BroadcastsInDim ST ![0]) (ok : IVec SP 1) (q : IVec SC 32)
    (pe fill : FVec F ST .f32) : FVec F ST .f32 :=
  select (broadcastInDim ST ![0] hm ok) (Host.gather d pe q) fill

/-- Looking the rows up at positions in order gives the table back. -/
theorem taken_eq (d : GatherDims ST SC ST) (hoff : d.offsetDims = [1]) (hcoll : d.collapsedSliceDims = [0])
    (hob : d.operandBatchingDims = []) (hsim : d.startIndexMap = [0]) (hivd : d.indexVectorDim = 1)
    (hm : SP.BroadcastsInDim ST ![0]) (h : SP.BroadcastsInDim SC ![0]) {ok : IVec SP 1} {p : IVec SP 32}
    (hok : ∀ j, ok j = 1#1) (hp : InOrder p) (pe fill : FVec F ST .f32) :
    taken d hm ok (broadcastInDim SC ![0] h p) pe fill = pe := by
  funext i
  obtain ⟨s, k, rfl⟩ : ∃ (s : Fin 2048) (k : Fin 1024), i = ix2 s k := ⟨i 0, i 1, eq_ix2 i⟩
  show Scalar.select (ok _) (Host.gather d pe _ (ix2 s k)) _ = _
  rw [hok, select_one]
  exact Routing.gather_row d hoff hcoll hob hsim hivd pe _ s k s ((column_apply h p s 0).trans (hp s)) (by decide)

/-- The sum with the table spread over the batch is `added`. -/
theorem spread_add (h1 : ST.BroadcastsInDim S1T ![1, 2]) (h2 : S1T.BroadcastsInDim SX ![0, 1, 2])
    (x : FVec F SX .f32) (pe : FVec F ST .f32) :
    addf x (broadcastInDim SX ![0, 1, 2] h2 (broadcastInDim S1T ![1, 2] h1 pe)) = added x pe := by
  funext i
  refine congrArg (FloatOps.addf (x i)) ?_
  refine (broadcastInDim_apply _ h2 _ i (ix3 (0 : Fin 1) (i 1) (i 2)) fun a => ?_).trans
    (broadcastInDim_apply _ h1 _ _ (ix2 (i 1) (i 2)) fun a => ?_)
  · match a with
    | ⟨0, _⟩ => rfl
    | ⟨1, _⟩ => rfl
    | ⟨2, _⟩ => rfl
  · match a with
    | ⟨0, _⟩ => rfl
    | ⟨1, _⟩ => rfl

/-- THE REFERENCE'S RESULT: at positions in order, the sum of `x` and the looked-up rows spread over the batch is
    `added x pe`, whatever the fill value. -/
theorem reference_eq (d : GatherDims ST SC ST) (hoff : d.offsetDims = [1]) (hcoll : d.collapsedSliceDims = [0])
    (hob : d.operandBatchingDims = []) (hsim : d.startIndexMap = [0]) (hivd : d.indexVectorDim = 1)
    (hw : S0.BroadcastsInDim SP ![]) (h : SP.BroadcastsInDim SC ![0]) (hm : SP.BroadcastsInDim ST ![0])
    (hc h1 h2 hr h0) (g1 : ST.BroadcastsInDim S1T ![1, 2]) (g2 : S1T.BroadcastsInDim SX ![0, 1, 2])
    (x : FVec F SX .f32) (pe fill : FVec F ST .f32) {p : IVec SP 32} (hp : InOrder p) :
    addf x (broadcastInDim SX ![0, 1, 2] g2 (broadcastInDim S1T ![1, 2] g1
      (taken d hm (inRange hc h1 h2 hr h0 (broadcastInDim SC ![0] h (wrapped hw p)))
        (broadcastInDim SC ![0] h (wrapped hw p)) pe fill))) = added x pe := by
  rw [wrapped_eq hw hp, taken_eq d hoff hcoll hob hsim hivd hm h (inRange_eq hc h1 h2 hr h0 h hp) hp, spread_add]

end Cert.Lookup

end
-- ==== Proof.Order.lean ====
/-
  The precondition `positions`, read back: if the printed predicate is all ones, the positions are 0, 1, 2, …, in order.
-/
module

public import proofs.«01_k».proof.Pre_positions
public import proofs.«01_k».proof.Proof.Lookup

@[expose] public section

noncomputable section

namespace Cert.Lookup

open Idealize.ShloMosaic Idealize.ShloMosaic.ValueIdx

/-- The predicate compares every position with its own index and takes the conjunction; so where it holds, position
    `s` is `s`. -/
theorem inOrder_of_positions {F : FTy → Type} [FloatOps F] [Cert.Pre_positions.Facts] (x : FVec F SX .f32)
    (pe : FVec F ST .f32) (p : IVec SP 32) (h : Cert.Pre_positions.fn x pe p = fun _ => 1#1) : InOrder p := by
  intro s
  have e := congrFun h ix0
  dsimp only [Cert.Pre_positions.fn] at e
  haveI : Subsingleton (⟨0, ![]⟩ : Shape).Idx := ⟨fun a b => (eq_ix0 a).trans (eq_ix0 b).symm⟩
  exact StableHlo.Predicate.cmpi_eq_iff.mp (Host.reduce_andi_all _ _ _ _ _ e (ix1 s))

end Cert.Lookup

end
-- ==== Proof.KernelIdealValue.lean ====
/-
  What `KernelIdeal` computes. Its one region walks the 2048 positions in 8 blocks of 256; at block `t` it adds rows
  256·t … 256·t + 255 of the table to those rows of every sequence of the batch and writes the sums back. The blocks tile
  the result, so it ends at `Lookup.added x pe`: the whole-array sum. The positions argument is never read.
-/
module

public import proofs.«01_k».proof.Proof.Gen.KernelIdeal.Value
public import proofs.«01_k».proof.Proof.Lookup
public import Idealize.ShloMosaic.Lib.Pipeline.ValueKit

@[expose] public section

noncomputable section

namespace Cert.KernelIdeal.Sum

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ) (ρ : Dev nD → PrngReg)

/-- Where the three windows stand at grid point `t`: block `t` along the positions, block 0 along every other axis. -/
theorem index0 : ∀ t : Fin cfg0.N, win0_0.index t = ![0, t.val, 0] :=
  (by decide +kernel : ∀ t : Fin grid0.N, win0_0.index t = ![0, t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, t.val, 0] :=
  (by decide +kernel : ∀ t : Fin grid0.N, win0_2.index t = ![0, t.val, 0])

/-- The result array after the run: every block that a grid point writes back is that block of the whole-array sum, and
    the blocks cover the array. -/
theorem final (c : Dev nD) : (dats m 0 c).arrAt 2 cfg0.N
    = Lookup.added (F := F) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  refine (Value.canon2_eq _ _ y).trans ?_
  rw [View.ld_unit_lit (h := by decide), View.ld_unit_lit (h := by decide)]
  unfold Lookup.added iblk
  refine congrArg₂ FloatOps.addf ?_ ?_
  · show m ((c : Thread nD τ).loc main_arg0) ((win0_0.blk t).view.emb (Value.ix2_0 y)) = m ((c : Thread nD τ).loc main_arg0) _
    refine congrArg _ ?_
    blk_ext [index0, index2]
  · show m ((c : Thread nD τ).loc main_arg1) ((win0_1.blk t).view.emb (Value.ix2_1 y)) = m ((c : Thread nD τ).loc main_arg1) _
    have e1 : ((win0_2.blk t).view.emb y 1).val = t.val * 256 + (y 1).val := by blk_simp [index2]
    have e2 : ((win0_2.blk t).view.emb y 2).val = (y 2).val := by blk_simp [index2]
    refine congrArg _ (funext fun a => Fin.ext ?_)
    match a with
    | ⟨0, _⟩ => refine Eq.trans ?_ e1.symm; blk_simp [index1]
    | ⟨1, _⟩ => refine Eq.trans ?_ e2.symm; blk_simp [index1]

/-- THE RUN: the result is the whole-array sum, the arguments end as they were. -/
theorem run : θ_run defs (onTc (τ := τ) (main (F := F))) ⟨m, fun _ => 0, ρ⟩ fun r => ∀ c : Dev nD,
      r.2.mem ((c : Thread nD τ).loc main_v0)
        = Lookup.added (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Sum

end
-- ==== Proof.ReferenceIdealValue.lean ====
/-
  What `ReferenceIdeal` computes: from positions in order, its result is `Lookup.added x pe`.
-/
module

public import proofs.«01_k».proof.Proof.Gen.ReferenceIdeal.Run
public import proofs.«01_k».proof.Proof.Lookup
public import Idealize.ShloMosaic.Lib.Quiescent

@[expose] public section

noncomputable section

namespace Cert.ReferenceIdeal.Sum

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- THE RUN: at positions in order the result is the whole-array sum, the arguments end as they were. -/
theorem run (hp : ∀ c : Dev nD, Lookup.InOrder (m ((c.tc : Thread nD τ).loc main_arg2))) :
    θ_run defs (onTc (τ := τ) (main (F := F))) ⟨m, fun _ => 0, ρ⟩ fun r => ∀ c : Dev nD,
      r.2.mem ((c.tc : Thread nD τ).loc main_v3)
        = Lookup.added (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Lookup.reference_eq
      gather_S2048x1024_S2048x1_S2048x1024_1_0_n_n_0_1_11024 rfl rfl rfl rfl rfl _ _ _ _ _ _ _ _ _ _ _ _ _ (hp c)), (h c).2⟩)
    (Value.run m ρ)

/-- THE FRAME: the program terminates with its arguments as they were, and has no semaphore to leave set. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (Value.run m ρ)

end Cert.ReferenceIdeal.Sum

end
-- ==== Proof.lean ====
/-
  The claims about the positional embedding `x + pe_table[pe_input]`, assembled.

  The mathematics is in `Proof/Lookup.lean` (looking up the positions 0, 1, 2, … gives the table back), the decoding of
  the precondition in `Proof/Order.lean`, what the kernel's 8 blocks leave in `Proof/KernelValue.lean` and
  `Proof/KernelIdealValue.lean`, and what the reference computes in `Proof/ReferenceValue.lean` and
  `Proof/ReferenceIdealValue.lean`. Kernel and reference both end at `Lookup.added x pe_table`; that holds under any
  reading of the floats, so it gives the equality of words and the equality of extended reals alike.
-/
module

public import proofs.«01_k».proof.Defs
public import proofs.«01_k».proof.Proof.Gen.Pre_positions
public import proofs.«01_k».proof.Proof.Order
public import proofs.«01_k».proof.Proof.KernelValue
public import proofs.«01_k».proof.Proof.KernelIdealValue
public import proofs.«01_k».proof.Proof.ReferenceValue
public import proofs.«01_k».proof.Proof.ReferenceIdealValue

@[expose] public section

noncomputable section

namespace Cert.Proof

open Idealize.ShloMosaic Idealize.SL.Sem

/-- Kernel and reference, run from arguments that agree and whose positions are in order, end with the same words. -/
theorem bitexact : Cert.bitexact_Kernel_Reference_pre_positions := by
  intro m ρ m' ρ' hpre hagree
  refine ⟨fun c => Lookup.added (F := Bits) (m (c.tc.loc Cert.Kernel.main_arg0)) (m (c.tc.loc Cert.Kernel.main_arg1)),
    Cert.Kernel.Sum.run (F := Bits) m ρ, ?_⟩
  have hp (c : Dev Cert.Reference.nD) : Lookup.InOrder (m' (c.tc.loc Cert.Reference.main_arg2)) := by
    rw [(hagree c).2.2]
    exact Lookup.inOrder_of_positions _ _ _ (hpre c)
  refine (θ_run Cert.Reference.defs _ _).mono (fun _ h c => ⟨(h c).1.trans ?_, (h c).2⟩)
    (Cert.Reference.Sum.run (F := Bits) m' ρ' hp)
  rw [(hagree c).1, (hagree c).2.1]

/-- The same over the extended reals. -/
theorem algebraic : Cert.algebraic_KernelIdeal_ReferenceIdeal_pre_positions := by
  intro m ρ m' ρ' hpre hagree
  refine ⟨fun c => Lookup.added (F := Ideal) (m (c.tc.loc Cert.KernelIdeal.main_arg0)) (m (c.tc.loc Cert.KernelIdeal.main_arg1)),
    Cert.KernelIdeal.Sum.run (F := Ideal) m ρ, ?_⟩
  have hp (c : Dev Cert.ReferenceIdeal.nD) : Lookup.InOrder (m' (c.tc.loc Cert.ReferenceIdeal.main_arg2)) := by
    rw [(hagree c).2.2]
    exact Lookup.inOrder_of_positions _ _ _ (hpre c)
  refine (θ_run Cert.ReferenceIdeal.defs _ _).mono (fun _ h c => ⟨(h c).1.trans ?_, (h c).2⟩)
    (Cert.ReferenceIdeal.Sum.run (F := Ideal) m' ρ' hp)
  rw [(hagree c).1, (hagree c).2.1]

/-- Everything claimed. The frames need no precondition. -/
theorem claim : Cert.Claim :=
  ⟨Cert.Kernel.Gen.facts, Cert.KernelIdeal.Gen.facts, Cert.ReferenceIdeal.Gen.facts, Cert.Reference.Gen.facts,
    Cert.Pre_positions.Gen.facts,
    fun m ρ _ => Cert.Kernel.Gen.frame m ρ, fun m ρ _ => Cert.Kernel.Gen.frame m ρ,
    fun m ρ _ => Cert.KernelIdeal.Gen.frame m ρ, fun m ρ _ => Cert.KernelIdeal.Gen.frame m ρ,
    fun m ρ _ => Cert.ReferenceIdeal.Sum.frame m ρ, fun m ρ _ => Cert.ReferenceIdeal.Sum.frame m ρ,
    fun m ρ _ => Cert.Reference.Sum.frame m ρ, fun m ρ _ => Cert.Reference.Sum.frame m ρ,
    trivial, bitexact, algebraic⟩

end Cert.Proof

end
